-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slots_not_negative [hPre_slots_not_negative : Cert.Pre_slots_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_slots_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_not_negative [hPre_slots_not_negative : Cert.Pre_slots_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_slots_not_negative [hKernelIdeal : Cert.KernelIdeal.Facts] [hPre_slots_not_negative : Cert.Pre_slots_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_slots_not_negative [hReferenceIdeal : Cert.ReferenceIdeal.Facts] [hPre_slots_not_negative : Cert.Pre_slots_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_slots_not_negative [hKernelIdeal : Cert.KernelIdeal.Facts] [hReferenceIdeal : Cert.ReferenceIdeal.Facts] [hPre_slots_not_negative : Cert.Pre_slots_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_slots_not_negative : Cert.Pre_slots_not_negative.Facts),
    quiescent_Kernel (hKernel := hKernel)
    ∧ quiescent_KernelIdeal (hKernelIdeal := hKernelIdeal)
    ∧ quiescent_KernelIdeal_pre_slots_not_negative (hKernelIdeal := hKernelIdeal) (hPre_slots_not_negative := hPre_slots_not_negative)
    ∧ quiescent_ReferenceIdeal (hReferenceIdeal := hReferenceIdeal)
    ∧ quiescent_ReferenceIdeal_pre_slots_not_negative (hReferenceIdeal := hReferenceIdeal) (hPre_slots_not_negative := hPre_slots_not_negative)
    ∧ preserves_Kernel_KernelIdeal
    ∧ algebraic_KernelIdeal_ReferenceIdeal_pre_slots_not_negative (hKernelIdeal := hKernelIdeal) (hReferenceIdeal := hReferenceIdeal) (hPre_slots_not_negative := hPre_slots_not_negative)
-- ==== Pre_slots_not_negative.lean ====
abbrev S32x64x128x128 : Shape := ⟨4, ![32, 64, 128, 128]⟩
abbrev S32x64x128 : Shape := ⟨3, ![32, 64, 128]⟩
abbrev S32x8 : Shape := ⟨2, ![32, 8]⟩
abbrev S32x2048 : Shape := ⟨2, ![32, 2048]⟩
abbrev S8192x2048 : Shape := ⟨2, ![8192, 2048]⟩
abbrev S8192 : Shape := ⟨1, ![8192]⟩
abbrev S_ : Shape := ⟨0, ![]⟩

class Facts : Prop where
  bcast_S_S32x8 : S_.BroadcastsInDim S32x8 (![] : Fin 0 → Fin S32x8.rank)

variable [Facts]

def fn {F : FTy → Type} [FloatOps F] (main_arg0 : FVec F S32x64x128x128 .f32) (main_arg1 : FVec F S32x64x128 .f32) (main_arg2 : FVec F S32x64x128 .f32) (main_arg3 : IVec S32x8 32) (main_arg4 : FVec F S32x2048 .f32) (main_arg5 : FVec F S8192x2048 .f32) (main_arg6 : FVec F S8192 .f32) : IVec S32x8 1 :=
  let main_c : IVec S_ 32 := constantI S_ 32 0#32
  let main_v0 : IVec S32x8 32 := broadcastInDim S32x8 ![] bcast_S_S32x8 main_c
  let main_v1 : IVec S32x8 1 := cmpi .sge main_arg3 main_v0
  main_v1
-- ==== Kernel.lean ====
abbrev S32x64x128x128 : Shape := ⟨4, ![32, 64, 128, 128]⟩
abbrev S32x64x128 : Shape := ⟨3, ![32, 64, 128]⟩
abbrev S32x8 : Shape := ⟨2, ![32, 8]⟩
abbrev S32x2048 : Shape := ⟨2, ![32, 2048]⟩
abbrev S8192x2048 : Shape := ⟨2, ![8192, 2048]⟩
abbrev S8192 : Shape := ⟨1, ![8192]⟩
abbrev S64x128x2048 : Shape := ⟨3, ![64, 128, 2048]⟩
abbrev S64x1x128 : Shape := ⟨3, ![64, 1, 128]⟩
abbrev S32x64x1x128 : Shape := ⟨4, ![32, 64, 1, 128]⟩
abbrev S16x8 : Shape := ⟨2, ![16, 8]⟩
abbrev S16x2048 : Shape := ⟨2, ![16, 2048]⟩
abbrev S4x128x2048 : Shape := ⟨3, ![4, 128, 2048]⟩
abbrev S4x1x128 : Shape := ⟨3, ![4, 1, 128]⟩
abbrev S16x4x128x128 : Shape := ⟨4, ![16, 4, 128, 128]⟩
abbrev S16x4x1x128 : Shape := ⟨4, ![16, 4, 1, 128]⟩
abbrev S1x128x2048 : Shape := ⟨3, ![1, 128, 2048]⟩
abbrev S128x2048 : Shape := ⟨2, ![128, 2048]⟩
abbrev S16x128 : Shape := ⟨2, ![16, 128]⟩
abbrev S1x1x128 : Shape := ⟨3, ![1, 1, 128]⟩
abbrev S128 : Shape := ⟨1, ![128]⟩
abbrev S1x128 : Shape := ⟨2, ![1, 128]⟩
abbrev S16 : Shape := ⟨1, ![16]⟩
abbrev S16x1x128x128 : Shape := ⟨4, ![16, 1, 128, 128]⟩
abbrev S16x128x128 : Shape := ⟨3, ![16, 128, 128]⟩
abbrev S16x1x1x128 : Shape := ⟨4, ![16, 1, 1, 128]⟩
abbrev S16x128x1 : Shape := ⟨3, ![16, 128, 1]⟩
abbrev S16x1x128 : Shape := ⟨3, ![16, 1, 128]⟩
abbrev S16x1x1 : Shape := ⟨3, ![16, 1, 1]⟩

abbrev nBuf : Space → Nat
  | .hbm => 12
  | .vmem => 16
  | .smem => 0
  | _ => 0

abbrev bufTy : (tb : Table) → Fin (tcTables nBuf tb) → BufTy
  | .hbm, ⟨0, _⟩ => ⟨S32x64x128x128, .f32⟩
  | .hbm, ⟨1, _⟩ => ⟨S32x64x128, .f32⟩
  | .hbm, ⟨2, _⟩ => ⟨S32x64x128, .f32⟩
  | .hbm, ⟨3, _⟩ => ⟨S32x8, .i32⟩
  | .hbm, ⟨4, _⟩ => ⟨S32x2048, .f32⟩
  | .hbm, ⟨5, _⟩ => ⟨S8192x2048, .f32⟩
  | .hbm, ⟨6, _⟩ => ⟨S8192, .f32⟩
  | .hbm, ⟨7, _⟩ => ⟨S64x128x2048, .f32⟩
  | .hbm, ⟨8, _⟩ => ⟨S64x1x128, .f32⟩
  | .hbm, ⟨9, _⟩ => ⟨S32x64x1x128, .f32⟩
  | .hbm, ⟨10, _⟩ => ⟨S32x64x1x128, .f32⟩
  | .hbm, ⟨11, _⟩ => ⟨S32x64x128x128, .f32⟩
  | .local _ .vmem, ⟨0, _⟩ => ⟨S16x8, .i32⟩
  | .local _ .vmem, ⟨1, _⟩ => ⟨S16x8, .i32⟩
  | .local _ .vmem, ⟨2, _⟩ => ⟨S16x2048, .f32⟩
  | .local _ .vmem, ⟨3, _⟩ => ⟨S16x2048, .f32⟩
  | .local _ .vmem, ⟨4, _⟩ => ⟨S4x128x2048, .f32⟩
  | .local _ .vmem, ⟨5, _⟩ => ⟨S4x128x2048, .f32⟩
  | .local _ .vmem, ⟨6, _⟩ => ⟨S4x1x128, .f32⟩
  | .local _ .vmem, ⟨7, _⟩ => ⟨S4x1x128, .f32⟩
  | .local _ .vmem, ⟨8, _⟩ => ⟨S16x4x128x128, .f32⟩
  | .local _ .vmem, ⟨9, _⟩ => ⟨S16x4x128x128, .f32⟩
  | .local _ .vmem, ⟨10, _⟩ => ⟨S16x4x1x128, .f32⟩
  | .local _ .vmem, ⟨11, _⟩ => ⟨S16x4x1x128, .f32⟩
  | .local _ .vmem, ⟨12, _⟩ => ⟨S16x4x1x128, .f32⟩
  | .local _ .vmem, ⟨13, _⟩ => ⟨S16x4x1x128, .f32⟩
  | .local _ .vmem, ⟨14, _⟩ => ⟨S16x4x128x128, .f32⟩
  | .local _ .vmem, ⟨15, _⟩ => ⟨S16x4x128x128, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S16x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32x64x128x128 : Shape := ⟨4, ![32, 64, 128, 128]⟩
abbrev S32x64x128 : Shape := ⟨3, ![32, 64, 128]⟩
abbrev S32x8 : Shape := ⟨2, ![32, 8]⟩
abbrev S32x2048 : Shape := ⟨2, ![32, 2048]⟩
abbrev S8192x2048 : Shape := ⟨2, ![8192, 2048]⟩
abbrev S8192 : Shape := ⟨1, ![8192]⟩
abbrev S2048x8192 : Shape := ⟨2, ![2048, 8192]⟩
abbrev S32x8192 : Shape := ⟨2, ![32, 8192]⟩
abbrev S1x8192 : Shape := ⟨2, ![1, 8192]⟩
abbrev S_ : Shape := ⟨0, ![]⟩
abbrev S32x64x128x1 : Shape := ⟨4, ![32, 64, 128, 1]⟩
abbrev S32x64 : Shape := ⟨2, ![32, 64]⟩
abbrev S32 : Shape := ⟨1, ![32]⟩
abbrev S32x1 : Shape := ⟨2, ![32, 1]⟩
abbrev S32x8x1 : Shape := ⟨3, ![32, 8, 1]⟩
abbrev S32x8x2 : Shape := ⟨3, ![32, 8, 2]⟩
abbrev S32x64x1x1 : Shape := ⟨4, ![32, 64, 1, 1]⟩
abbrev S32x64x1x128 : Shape := ⟨4, ![32, 64, 1, 128]⟩

abbrev nBuf : Space → Nat
  | .hbm => 64
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S32x64x128, .f32⟩
  | .hbm, ⟨2, _⟩ => ⟨S32x64x128, .f32⟩
  | .hbm, ⟨3, _⟩ => ⟨S32x8, .i32⟩
  | .hbm, ⟨4, _⟩ => ⟨S32x2048, .f32⟩
  | .hbm, ⟨5, _⟩ => ⟨S8192x2048, .f32⟩
  | .hbm, ⟨6, _⟩ => ⟨S8192, .f32⟩
  | .hbm, ⟨7, _⟩ => ⟨S2048x8192, .f32⟩
  | .hbm, ⟨8, _⟩ => ⟨S32x8192, .f32⟩
  | .hbm, ⟨9, _⟩ => ⟨S1x8192, .f32⟩
  | .hbm, ⟨10, _⟩ => ⟨S32x8192, .f32⟩
  | .hbm, ⟨11, _⟩ => ⟨S32x8192, .f32⟩
  | .hbm, ⟨12, _⟩ => ⟨S32x64x128, .f32⟩
  | .hbm, ⟨13, _⟩ => ⟨S32x64x128, .f32⟩
  | .hbm, ⟨14, _⟩ => ⟨S32x64x128, .f32⟩
  | .hbm, ⟨15, _⟩ => ⟨S_, .f32⟩
  | .hbm, ⟨16, _⟩ => ⟨S32x64x128, .f32⟩
  | .hbm, ⟨17, _⟩ => ⟨S32x64x128, .f32⟩
  | .hbm, ⟨18, _⟩ => ⟨S_, .f32⟩
  | .hbm, ⟨19, _⟩ => ⟨S32x64x128, .f32⟩
  | .hbm, ⟨20, _⟩ => ⟨S32x64x128, .f32⟩
  | .hbm, ⟨21, _⟩ => ⟨S32x64x128x1, .f32⟩
  | .hbm, ⟨22, _⟩ => ⟨S_, .f32⟩
  | .hbm, ⟨23, _⟩ => ⟨S32x64, .f32⟩
  | .hbm, ⟨24, _⟩ => ⟨S32, .i32⟩
  | .hbm, ⟨25, _⟩ => ⟨S32x1, .i32⟩
  | .hbm, ⟨26, _⟩ => ⟨S_, .i32⟩
  | .hbm, ⟨27, _⟩ => ⟨S32x1, .i32⟩
  | .hbm, ⟨28, _⟩ => ⟨S32x1, .i1⟩
  | .hbm, ⟨29, _⟩ => ⟨S_, .i32⟩
  | .hbm, ⟨30, _⟩ => ⟨S32x1, .i32⟩
  | .hbm, ⟨31, _⟩ => ⟨S32x1, .i32⟩
  | .hbm, ⟨32, _⟩ => ⟨S32x1, .i32⟩
  | .hbm, ⟨33, _⟩ => ⟨S_, .i32⟩
  | .hbm, ⟨34, _⟩ => ⟨S32x8, .i32⟩
  | .hbm, ⟨35, _⟩ => ⟨S32x8, .i1⟩
  | .hbm, ⟨36, _⟩ => ⟨S_, .i32⟩
  | .hbm, ⟨37, _⟩ => ⟨S32x8, .i32⟩
  | .hbm, ⟨38, _⟩ => ⟨S32x8, .i32⟩
  | .hbm, ⟨39, _⟩ => ⟨S32x8, .i32⟩
  | .hbm, ⟨40, _⟩ => ⟨S32x8, .i32⟩
  | .hbm, ⟨41, _⟩ => ⟨S32x8x1, .i32⟩
  | .hbm, ⟨42, _⟩ => ⟨S32x8x1, .i32⟩
  | .hbm, ⟨43, _⟩ => ⟨S32x8x2, .i32⟩
  | .hbm, ⟨44, _⟩ => ⟨S_, .f32⟩
  | .hbm, ⟨45, _⟩ => ⟨S32x8, .f32⟩
  | .hbm, ⟨46, _⟩ => ⟨S32x64, .f32⟩
  | .hbm, ⟨47, _⟩ => ⟨S32x64x1x1, .f32⟩
  | .hbm, ⟨48, _⟩ => ⟨S32x64x128x1, .f32⟩
  | .hbm, ⟨49, _⟩ => ⟨S32x64x1x128, .f32⟩
  | .hbm, ⟨50, _⟩ => ⟨S32x64x128x128, .f32⟩
  | .hbm, ⟨51, _⟩ => ⟨S32x64x128x128, .f32⟩
  | .hbm, ⟨52, _⟩ => ⟨S32x64x128x128, .f32⟩
  | .hbm, ⟨53, _⟩ => ⟨S32x64x128x128, .f32⟩
  | .hbm, ⟨54, _⟩ => ⟨S32x64x128x128, .f32⟩
  | .hbm, ⟨55, _⟩ => ⟨S32x64x128x128, .f32⟩
  | .hbm, ⟨56, _⟩ => ⟨S32x64x128x128, .f32⟩
  | .hbm, ⟨57, _⟩ => ⟨S32x64x128x128, .f32⟩
  | .hbm, ⟨58, _⟩ => ⟨S_, .f32⟩
  | .hbm, ⟨59, _⟩ => ⟨S32x64x1x1, .f32⟩
  | .hbm, ⟨60, _⟩ => ⟨S32x64x1x1, .f32⟩
  | .hbm, ⟨61, _⟩ => ⟨S32x64x128x128, .f32⟩
  | .hbm, ⟨62, _⟩ => ⟨S32x64x128x128, .f32⟩
  | .hbm, ⟨63, _⟩ => ⟨S32x64x128x128, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proof.Update.lean ====
/-
  The result both programs are compared with: the gated memory update written element by element over the seven argument
  arrays.  It mentions neither program, so the block, the kernel's array and the reference are each stated against it.
-/
module

public import Idealize.ShloMosaic.Lib.Pointwise

@[expose] public section

noncomputable section

open Idealize.ShloMosaic

namespace Cert.Update

/-- One element after the update: `m` times the gate `logistic z`, plus `k * v`, where the slot is written; `m` elsewhere. -/
def gated (hit : Prop) [Decidable hit] (m z k v : EReal) : EReal :=
  if hit then m * Ideal.logistic z + k * v else m

/-- `gated` depends on the condition only up to equivalence, and on the four numbers. -/
theorem gated_congr {p q : Prop} [Decidable p] [Decidable q] {m m' z z' k k' v v' : EReal} (hp : p ↔ q) (hm : m = m')
    (hz : z = z') (hk : k = k') (hv : v = v') : gated p m z k v = gated q m' z' k' v' := by
  unfold gated
  rw [hm, hz, hk, hv]
  exact if_congr hp rfl rfl

/-- The weight row (and bias entry) that gates key lane `d` of slot `s`. -/
def row (s : Fin 64) (d : Fin 128) : Fin 8192 := ⟨s.val * 128 + d.val, by omega⟩

/-- Element `(b, s, d, e)` of the result. -/
def at4 (M : FVec Ideal ⟨4, ![32, 64, 128, 128]⟩ .f32) (Mk Mv : FVec Ideal ⟨3, ![32, 64, 128]⟩ .f32)
    (idx : IVec ⟨2, ![32, 8]⟩ 32) (x : FVec Ideal ⟨2, ![32, 2048]⟩ .f32) (W : FVec Ideal ⟨2, ![8192, 2048]⟩ .f32)
    (bias : FVec Ideal ⟨1, ![8192]⟩ .f32) (b : Fin 32) (s : Fin 64) (d e : Fin 128) : EReal :=
  gated (∃ j : Fin 8, idx (ix2 b j) = BitVec.ofNat 32 s.val) (M (ix4 b s d e))
    (∑ k : Fin 2048, x (ix2 b k) * W (ix2 (row s d) k) + bias (ix1 (row s d))) (Mk (ix3 b s d)) (Mv (ix3 b s e))

/-- The whole result. -/
def updated (M : FVec Ideal ⟨4, ![32, 64, 128, 128]⟩ .f32) (Mk Mv : FVec Ideal ⟨3, ![32, 64, 128]⟩ .f32)
    (idx : IVec ⟨2, ![32, 8]⟩ 32) (x : FVec Ideal ⟨2, ![32, 2048]⟩ .f32) (W : FVec Ideal ⟨2, ![8192, 2048]⟩ .f32)
    (bias : FVec Ideal ⟨1, ![8192]⟩ .f32) : FVec Ideal ⟨4, ![32, 64, 128, 128]⟩ .f32 :=
  fun i => at4 M Mk Mv idx x W bias (i 0) (i 1) (i 2) (i 3)

end Cert.Update

end
-- ==== Proof.Slot.lean ====
/-
  What one block computes, one memory slot at a time.  The kernel's body updates the four slots of its block with four
  stores.  The four stored values are the same function of the slot's number and of the slot's part of each input
  (`slot`); `slot_apply` reads that function at one element.
-/
module

public import proofs.«01_k».proof.Proof.Gen.KernelIdeal.Frame
public import proofs.«01_k».proof.Proof.Update
public import Idealize.ShloMosaic.Lib.Affine
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Slot

open Cert.KernelIdeal Cert.KernelIdeal.Gen Cert.Update

section AnyFloat

variable {F : FTy → Type} [FloatOps F]

/-- Which batch rows of the block list slot number `w`: one where the row's largest hit indicator is positive. -/
def listed (w : BitVec 32) (idx : Vec F S16x8 .i32) : IVec S16 1 :=
  cmpf .ogt
    (multiReduction .maximumf [1] S16
      (select (cmpi .eq idx (broadcast S16x8 w)) (broadcast S16x8 (Scalar.ofBits (F := F) .f32 0x3F800000#32))
        (broadcast S16x8 (Scalar.ofBits .f32 0x00000000#32)))
      0xFF800000#32 reduces_S16x8_S16 (.inl rfl) rfl)
    (broadcast S16 (Scalar.ofBits .f32 0x00000000#32))

/-- The value stored for slot number `w`: from the block's slot lists `idx` and rows `x`, and the slot's weights `wr`,
    bias `br`, memory `mr`, keys `kr` and values `vr`. -/
def slot (w : BitVec 32) (idx : Vec F S16x8 .i32) (x : Vec F S16x2048 .f32) (wr : Vec F S1x128x2048 .f32)
    (br : Vec F S1x1x128 .f32) (mr : Vec F S16x1x128x128 .f32) (kr vr : Vec F S16x1x1x128 .f32) :
    FVec F S16x1x128x128 .f32 :=
  k0_pay11 (k0_pay8 x wr br) (listed w idx) (k0_pay10 mr) kr vr

variable (v : BitVec 32) (i : grid0.Coords) (idx : Vec F S16x8 .i32) (x : Vec F S16x2048 .f32) (wr : Vec F S1x128x2048 .f32)
  (br : Vec F S1x1x128 .f32) (mr : Vec F S16x1x128x128 .f32) (kr vr : Vec F S16x1x1x128 .f32)

/-- The store into slot 0 of the block. -/
theorem store0_eq : k0_pay7 (k0_pay2 i idx) (k0_pay3 mr) (k0_pay4 kr) (k0_pay5 vr) (k0_pay6 x wr br)
    = slot (Scalar.addi (Scalar.muli (BitVec.ofNat 32 (i 0).val) 4#32) 0#32) idx x wr br mr kr vr := rfl

/-- The store into slot 1 of the block. -/
theorem store1_eq : k0_pay11 (k0_pay8 x wr br) (k0_pay9 v idx) (k0_pay10 mr) kr vr
    = slot (Scalar.addi v 1#32) idx x wr br mr kr vr := rfl

/-- The store into slot 2 of the block. -/
theorem store2_eq : k0_pay14 (k0_pay12 x wr br) (k0_pay13 v idx) mr kr vr
    = slot (Scalar.addi v 2#32) idx x wr br mr kr vr := rfl

/-- The store into slot 3 of the block. -/
theorem store3_eq : k0_pay1 (k0_pay15 x wr br) (k0_pay16 v idx) (Scalar.ofBits .f32 0x00000000#32) k0_pay17 mr kr vr
    = slot (Scalar.addi v 3#32) idx x wr br mr kr vr := rfl

end AnyFloat

/-- The largest of a row of indicators is positive exactly when one of them is set. -/
theorem max_indicator_pos {n : Nat} (p : Fin n → Prop) [DecidablePred p] :
    0 < (Finset.univ : Finset (Fin n)).fold max (⊥ : EReal) (fun k => if p k then 1 else 0) ↔ ∃ k, p k := by
  rw [Finset.lt_fold_max]
  constructor
  · rintro (h | ⟨k, -, h⟩)
    · exact absurd h not_lt_bot
    · by_contra hp
      rw [if_neg fun hk => hp ⟨k, hk⟩] at h
      exact lt_irrefl _ h
  · rintro ⟨k, hk⟩
    exact Or.inr ⟨k, Finset.mem_univ _, by rw [if_pos hk]; exact zero_lt_one⟩

/-- A batch row lists slot number `w` when one of its eight entries is `w`. -/
theorem listed_apply (w : BitVec 32) (idx : Vec Ideal S16x8 .i32) (p : Fin 16) :
    listed (F := Ideal) w idx (ix1 p) = BitVec.ofBool (decide (∃ j : Fin 8, idx (ix2 p j) = w)) := by
  pointwise [listed]
  have hbot : Ideal.ofBits .f32 0xFF800000#32 = ⊥ := by simp [Ideal.ofBits, Ideal.ieee]
  have hsel : ∀ j : Fin 8, Scalar.select (IntOp.cmpi .eq (idx (ix2 p j)) w) (1 : EReal) 0
      = if idx (ix2 p j) = w then 1 else 0 := fun j => if_congr IntOp.cmpi_eq rfl rfl
  simp only [hbot, hsel, max_indicator_pos]

/-- The stored value at one element: the gated memory plus the key times the value where the row lists the slot, the old
    memory elsewhere. -/
theorem slot_apply (w : BitVec 32) (idx : Vec Ideal S16x8 .i32) (x : Vec Ideal S16x2048 .f32)
    (wr : Vec Ideal S1x128x2048 .f32) (br : Vec Ideal S1x1x128 .f32) (mr : Vec Ideal S16x1x128x128 .f32)
    (kr vr : Vec Ideal S16x1x1x128 .f32) (p : Fin 16) (d e : Fin 128) :
    slot (F := Ideal) w idx x wr br mr kr vr (ix4 p 0 d e)
      = gated (∃ j : Fin 8, idx (ix2 p j) = w) (mr (ix4 p 0 d e))
          (∑ k : Fin 2048, x (ix2 p k) * wr (ix3 0 d k) + br (ix3 0 0 d)) (kr (ix4 p 0 0 d)) (vr (ix4 p 0 0 e)) := by
  pointwise [slot, k0_pay8, k0_pay10, k0_pay11]
  rw [listed_apply]
  pointwise [gated]

/-- Element `(p, s, d, e)` of the block the body leaves at grid column `n`, over the seven input blocks. -/
def blockAt (n : Nat) (x0 : Vec Ideal S16x8 .i32) (x1 : Vec Ideal S16x2048 .f32) (x2 : Vec Ideal S4x128x2048 .f32)
    (x3 : Vec Ideal S4x1x128 .f32) (x4 : Vec Ideal S16x4x128x128 .f32) (x5 x6 : Vec Ideal S16x4x1x128 .f32)
    (p : Fin 16) (s : Fin 4) (d e : Fin 128) : EReal :=
  gated (∃ j : Fin 8, x0 (ix2 p j) = BitVec.ofNat 32 (4 * n + s.val)) (x4 (ix4 p s d e))
    (∑ k : Fin 2048, x1 (ix2 p k) * x2 (ix3 s d k) + x3 (ix3 s 0 d)) (x5 (ix4 p s 0 d)) (x6 (ix4 p s 0 e))

/-- The number the body gives slot `s` of its block at grid column `n`. -/
theorem slot_number (n s : Nat) :
    Scalar.addi (Scalar.muli (BitVec.ofNat 32 n) 4#32) (BitVec.ofNat 32 s) = BitVec.ofNat 32 (4 * n + s) := by
  show BitVec.ofNat 32 n * BitVec.ofNat 32 4 + BitVec.ofNat 32 s = _
  rw [← BitVec.ofNat_mul, ← BitVec.ofNat_add, Nat.mul_comm]

/-- One store of the body: `slot` of the parts that slot `s` of the block's inputs gives (`hidx` to `hv` say that each
    operand is that part) is the block's element, wherever the store places it. -/
theorem slot_eq_blockAt (n : Nat) (s : Fin 4) {x0 : Vec Ideal S16x8 .i32} {x1 : Vec Ideal S16x2048 .f32}
    {x2 : Vec Ideal S4x128x2048 .f32} {x3 : Vec Ideal S4x1x128 .f32} {x4 : Vec Ideal S16x4x128x128 .f32}
    {x5 x6 : Vec Ideal S16x4x1x128 .f32} {w : BitVec 32} {idx : Vec Ideal S16x8 .i32} {x : Vec Ideal S16x2048 .f32}
    {wr : Vec Ideal S1x128x2048 .f32} {br : Vec Ideal S1x1x128 .f32} {mr : Vec Ideal S16x1x128x128 .f32}
    {kr vr : Vec Ideal S16x1x1x128 .f32} (hw : w = BitVec.ofNat 32 (4 * n + s.val)) (hidx : ∀ p j, idx (ix2 p j) = x0 (ix2 p j))
    (hx : ∀ p k, x (ix2 p k) = x1 (ix2 p k)) (hwr : ∀ d k, wr (ix3 0 d k) = x2 (ix3 s d k))
    (hbr : ∀ d, br (ix3 0 0 d) = x3 (ix3 s 0 d)) (hmr : ∀ p d e, mr (ix4 p 0 d e) = x4 (ix4 p s d e))
    (hkr : ∀ p d, kr (ix4 p 0 0 d) = x5 (ix4 p s 0 d)) (hvr : ∀ p e, vr (ix4 p 0 0 e) = x6 (ix4 p s 0 e))
    (z : S16x1x128x128.Idx) (y : S16x4x128x128.Idx) (h0 : (y 0 : ℕ) = z 0) (h1 : (y 1 : ℕ) = s.val + z 1)
    (h2 : (y 2 : ℕ) = z 2) (h3 : (y 3 : ℕ) = z 3) :
    slot (F := Ideal) w idx x wr br mr kr vr z = blockAt n x0 x1 x2 x3 x4 x5 x6 (y 0) (y 1) (y 2) (y 3) := by
  obtain ⟨p, q, d, e, rfl⟩ : ∃ (p : Fin 16) (q : Fin 1) (d e : Fin 128), z = ix4 p q d e :=
    ⟨z 0, z 1, z 2, z 3, eq_ix4 z⟩
  obtain rfl : q = 0 := Subsingleton.elim _ _
  have e0 : y 0 = p := Fin.ext h0
  have e1 : y 1 = s := Fin.ext h1
  have e2 : y 2 = d := Fin.ext h2
  have e3 : y 3 = e := Fin.ext h3
  rw [slot_apply, e0, e1, e2, e3, hw]
  simp only [blockAt, hidx, hx, hwr, hbr, hmr, hkr, hvr]

/-- What the body leaves in the output block, at one element: each of its four stores is `slot` of its slot's parts. -/
theorem out_apply (i : grid0.Coords) (x0 : Vec Ideal S16x8 .i32) (x1 : Vec Ideal S16x2048 .f32)
    (x2 : Vec Ideal S4x128x2048 .f32) (x3 : Vec Ideal S4x1x128 .f32) (x4 : Vec Ideal S16x4x128x128 .f32)
    (x5 x6 : Vec Ideal S16x4x1x128 .f32) (y : S16x4x128x128.Idx) :
    out0_7 (F := Ideal) i x0 x1 x2 x3 x4 x5 x6 y
      = blockAt (i 0).val x0 x1 x2 x3 x4 x5 x6 (y 0) (y 1) (y 2) (y 3) := by
  unfold out0_7
  canon_tiles x h
  · refine (congrFun (store3_eq ..) x).trans
      (slot_eq_blockAt (i 0).val 3 (slot_number _ 3) ?_ ?_ ?_ ?_ ?_ ?_ ?_ x y h0 h1 h2 h3) <;> intros <;> pointwise
  · refine (congrFun (store2_eq ..) x).trans
      (slot_eq_blockAt (i 0).val 2 (slot_number _ 2) ?_ ?_ ?_ ?_ ?_ ?_ ?_ x y h0 h1 h2 h3) <;> intros <;> pointwise
  · refine (congrFun (store1_eq ..) x).trans
      (slot_eq_blockAt (i 0).val 1 (slot_number _ 1) ?_ ?_ ?_ ?_ ?_ ?_ ?_ x y h0 h1 h2 h3) <;> intros <;> pointwise
  · refine (congrFun (store0_eq ..) x).trans (slot_eq_blockAt (i 0).val 0 (slot_number _ 0) ?_ ?_ ?_ ?_ ?_ ?_ ?_ x y h0
      (h1.trans (Nat.zero_add _).symm) h2 h3) <;> intros <;> pointwise

end Cert.KernelIdeal.Slot

end
-- ==== Proof.Array.lean ====
/-
  What the kernel's result array holds after the run: every block is the update of the argument arrays at the block's
  place, and the blocks cover the array.
-/
module

public import proofs.«01_k».proof.Proof.Slot
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.Update Cert.KernelIdeal.Slot

variable (m : (ℓ : Loc nD τ sig) → Buf (Elt Ideal) ℓ)

/-- Which block each window is at, at every grid point: four slots per grid column, sixteen batch rows per grid row. -/
theorem idx : ∀ t : Fin cfg0.N,
    win0_0.index t = ![(grid0.coords t 1).val, 0] ∧ win0_1.index t = ![(grid0.coords t 1).val, 0]
      ∧ win0_2.index t = ![(grid0.coords t 0).val, 0, 0] ∧ win0_3.index t = ![(grid0.coords t 0).val, 0, 0]
      ∧ win0_4.index t = ![(grid0.coords t 1).val, (grid0.coords t 0).val, 0, 0]
      ∧ win0_5.index t = ![(grid0.coords t 1).val, (grid0.coords t 0).val, 0, 0]
      ∧ win0_6.index t = ![(grid0.coords t 1).val, (grid0.coords t 0).val, 0, 0]
      ∧ win0_7.index t = ![(grid0.coords t 1).val, (grid0.coords t 0).val, 0, 0] :=
  (by decide +kernel : ∀ t : Fin grid0.N, _)

/-- Batch row `p` of the block at grid point `t`. -/
def batch (t : Fin cfg0.N) (p : Fin 16) : Fin 32 :=
  ⟨(grid0.coords t 1).val * 16 + p.val, by have : (grid0.coords t 1).val < 2 := (grid0.coords t 1).isLt; omega⟩

/-- Slot `s` of the block at grid point `t`. -/
def slotNo (t : Fin cfg0.N) (s : Fin 4) : Fin 64 :=
  ⟨(grid0.coords t 0).val * 4 + s.val, by have : (grid0.coords t 0).val < 16 := (grid0.coords t 0).isLt; omega⟩

/-- The update of device `c`'s argument arrays. -/
abbrev result (c : Dev nD) : FVec Ideal S32x64x128x128 .f32 :=
  updated (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

section Blocks

variable (c : Dev nD) (t : Fin cfg0.N) (p : Fin 16) (s : Fin 4) (d e : Fin 128)

/-- The block's slot lists are the rows of the slot lists. -/
theorem block_idx (j : Fin 8) :
    iblk m c 0 t (ix2 p j) = m ((c.tc : Thread nD τ).loc main_arg3) (ix2 (batch t p) j) := by
  blk_ext [iblk, V, idx t, batch]

/-- The block's rows are rows of `x`. -/
theorem block_x (k : Fin 2048) :
    iblk m c 1 t (ix2 p k) = m ((c.tc : Thread nD τ).loc main_arg4) (ix2 (batch t p) k) := by
  blk_ext [iblk, V, idx t, batch]

/-- The block's weights are rows of `W`: the host line groups them by slot before the call. -/
theorem block_W (k : Fin 2048) :
    iblk m c 2 t (ix3 s d k) = m ((c.tc : Thread nD τ).loc main_arg5) (ix2 (row (slotNo t s) d) k) := by
  blk_ext! [iblk, V, idx t, slotNo, row]

/-- The block's biases are entries of the bias, grouped like the weights. -/
theorem block_bias :
    iblk m c 3 t (ix3 s 0 d) = m ((c.tc : Thread nD τ).loc main_arg6) (ix1 (row (slotNo t s) d)) := by
  blk_ext! [iblk, V, idx t, slotNo, row]

/-- The block's memory is a block of the memory. -/
theorem block_M :
    iblk m c 4 t (ix4 p s d e) = m ((c.tc : Thread nD τ).loc main_arg0) (ix4 (batch t p) (slotNo t s) d e) := by
  blk_ext [iblk, V, idx t, batch, slotNo]

/-- The block's keys are a block of the keys. -/
theorem block_Mk :
    iblk m c 5 t (ix4 p s 0 d) = m ((c.tc : Thread nD τ).loc main_arg1) (ix3 (batch t p) (slotNo t s) d) := by
  blk_ext! [iblk, V, idx t, batch, slotNo]

/-- The block's values are a block of the values. -/
theorem block_Mv :
    iblk m c 6 t (ix4 p s 0 e) = m ((c.tc : Thread nD τ).loc main_arg2) (ix3 (batch t p) (slotNo t s) e) := by
  blk_ext! [iblk, V, idx t, batch, slotNo]

/-- An element of the block that the body leaves is the update's element at the block's place. -/
theorem blockAt_eq :
    blockAt (grid0.coords t 0).val (iblk m c 0 t) (iblk m c 1 t) (iblk m c 2 t) (iblk m c 3 t) (iblk m c 4 t)
        (iblk m c 5 t) (iblk m c 6 t) p s d e
      = result m c (ix4 (batch t p) (slotNo t s) d e) := by
  have hs : 4 * (grid0.coords t 0).val + s.val = (slotNo t s).val := congrArg (· + s.val) (Nat.mul_comm ..)
  refine gated_congr (exists_congr fun j => ?_) (block_M m c t p s d e) ?_ (block_Mk m c t p s d) (block_Mv m c t p s e)
  · rw [block_idx, hs]
    rfl
  · exact Ideal.add_congr (Finset.sum_congr rfl fun k _ => Ideal.mul_congr (block_x m c t p k) (block_W m c t s d k))
      (block_bias m c t s d)

end Blocks

/-- The kernel's result array after the run is the update of its argument arrays. -/
theorem final (c : Dev nD) : (dats m 0 c).arrAt 7 (cfgs 0).N = result m c := by
  refine (dats m 0 c).arrAt_eq_of_covers 7 _ (by decide +kernel) fun t _ y => ?_
  blk_simp
  rw [after0_7]
  refine (out_apply _ _ _ _ _ _ _ _ y).trans ((blockAt_eq m c t (y 0) (y 1) (y 2) (y 3)).trans (congrArg _ ?_))
  blk_ext [idx t, batch, slotNo]

end Cert.KernelIdeal.Array

end
-- ==== Proof.Reference.lean ====
/-
  What the reference computes: its mask is the indicator of the listed slots, and its composed term is the update of the
  argument arrays wherever no listed slot number is negative.
-/
module

public import proofs.«01_k».proof.Proof.Update
public import proofs.«01_k».proof.Proof.Gen.ReferenceIdeal.Run
public import Idealize.ShloMosaic.Lib.Pointwise
public import Idealize.ShloMosaic.Lib.Pointwise.IndexBridge
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem

namespace Cert.ReferenceIdeal.Reading

open Cert.ReferenceIdeal Cert.ReferenceIdeal.Gen Cert.Update

/-- The batch row and slot number of each update of the reference's scatter, each wrapped as numpy wraps an index. -/
def places (idx : IVec S32x8 32) : IVec S32x8x2 32 :=
  concatenate S32x8x2 2
    [⟨S32x8x1, broadcastInDim S32x8x1 ![0, 1] bcast_S32x8_S32x8x1_0_1
        (broadcastInDim S32x8 ![0, 1] bcast_S32x1_S32x8_0_1
          (select (cmpi .slt (broadcastInDim S32x1 ![0] bcast_S32_S32x1_0 (iotaInDim S32 32 0))
              (broadcastInDim S32x1 ![] bcast_S_S32x1 (constantI S_ 32 0#32)))
            (addi (broadcastInDim S32x1 ![0] bcast_S32_S32x1_0 (iotaInDim S32 32 0))
              (broadcastInDim S32x1 ![] bcast_S_S32x1 (constantI S_ 32 32#32)))
            (broadcastInDim S32x1 ![0] bcast_S32_S32x1_0 (iotaInDim S32 32 0))))⟩,
      ⟨S32x8x1, broadcastInDim S32x8x1 ![0, 1] bcast_S32x8_S32x8x1_0_1
        (select (cmpi .slt idx (broadcastInDim S32x8 ![] bcast_S_S32x8 (constantI S_ 32 0#32)))
          (addi idx (broadcastInDim S32x8 ![] bcast_S_S32x8 (constantI S_ 32 64#32))) idx)⟩]
    concatenates_S32x8x1_S32x8x1_S32x8x2_d2

/-- The reference's mask: ones scattered into zeros at `places`. -/
def mask (idx : IVec S32x8 32) : FVec Ideal S32x64 .f32 :=
  Host.scatter scatter_S32x64_S32x8x2_S32x8_n_01_01_2 (fun _ b => b)
    (broadcastInDim S32x64 ![] bcast_S_S32x64 (constant S_ .f32 0x00000000#32)) (places idx)
    (broadcastInDim S32x8 ![] bcast_S_S32x8 (constant S_ .f32 0x3F800000#32))

/-- The reference's gate, the logistic function spelt out. -/
def gate (x : FVec Ideal S32x2048 .f32) (W : FVec Ideal S8192x2048 .f32) (bias : FVec Ideal S8192 .f32) :
    FVec Ideal S32x64x128 .f32 :=
  Host.divf (broadcastInDim S32x64x128 ![] bcast_S_S32x64x128 (constant S_ .f32 0x3F800000#32))
    (addf (broadcastInDim S32x64x128 ![] bcast_S_S32x64x128 (constant S_ .f32 0x3F800000#32))
      (Host.exp (Host.negf (shapeCast S32x64x128
        (addf (Host.dotGeneral dot_S32x2048_S2048x8192_S32x8192_1_0_0_1_n_n none x
            (transpose S2048x8192 [1, 0] W transposes_S8192x2048_S2048x8192_1_0))
          (broadcastInDim S32x8192 ![0, 1] bcast_S1x8192_S32x8192_0_1
            (broadcastInDim S1x8192 ![1] bcast_S8192_S1x8192_1 bias)))
        shapeCasts_S32x8192_S32x64x128))))

/-- The reference's result, from its mask and its gate. -/
def blend (mk : FVec Ideal S32x64 .f32) (g : FVec Ideal S32x64x128 .f32) (M : FVec Ideal S32x64x128x128 .f32)
    (Mk Mv : FVec Ideal S32x64x128 .f32) : FVec Ideal S32x64x128x128 .f32 :=
  addf
    (mulf (broadcastInDim S32x64x128x128 ![0, 1, 2, 3] bcast_S32x64x1x1_S32x64x128x128_0_1_2_3
        (shapeCast S32x64x1x1 mk shapeCasts_S32x64_S32x64x1x1))
      (addf (mulf M (broadcastInDim S32x64x128x128 ![0, 1, 2, 3] bcast_S32x64x128x1_S32x64x128x128_0_1_2_3
          (broadcastInDim S32x64x128x1 ![0, 1, 2] bcast_S32x64x128_S32x64x128x1_0_1_2 g)))
        (mulf (broadcastInDim S32x64x128x128 ![0, 1, 2, 3] bcast_S32x64x128x1_S32x64x128x128_0_1_2_3
            (broadcastInDim S32x64x128x1 ![0, 1, 2] bcast_S32x64x128_S32x64x128x1_0_1_2 Mk))
          (broadcastInDim S32x64x128x128 ![0, 1, 2, 3] bcast_S32x64x1x128_S32x64x128x128_0_1_2_3
            (broadcastInDim S32x64x1x128 ![0, 1, 3] bcast_S32x64x128_S32x64x1x128_0_1_3 Mv)))))
    (mulf (broadcastInDim S32x64x128x128 ![0, 1, 2, 3] bcast_S32x64x1x1_S32x64x128x128_0_1_2_3
        (subf (broadcastInDim S32x64x1x1 ![] bcast_S_S32x64x1x1 (constant S_ .f32 0x3F800000#32))
          (shapeCast S32x64x1x1 mk shapeCasts_S32x64_S32x64x1x1))) M)

/-- An update of the scatter lands in its own batch row. -/
theorem places_row (idx : IVec S32x8 32) (b : Fin 32) (j : Fin 8) : places idx (ix3 b j 0) = BitVec.ofNat 32 b.val := by
  pointwise [places]
  exact Routing.wrap_of_lt _ _ (by rw [WordCmp.toNat_ofNat_of_lt (by omega)]; omega)

/-- An update of the scatter lands at its slot number, when that is not negative. -/
theorem places_slot (idx : IVec S32x8 32) (b : Fin 32) (j : Fin 8) (h : (idx (ix2 b j)).toNat < 2 ^ 31) :
    places idx (ix3 b j 1) = idx (ix2 b j) := by
  pointwise [places]
  exact Routing.wrap_of_lt _ _ h

/-- A number below 64 is a word's signed value exactly when it is the word. -/
theorem toInt_eq_iff (w : BitVec 32) (s : Fin 64) : w.toInt = (s.val : Int) ↔ w = BitVec.ofNat 32 s.val := by
  have hs : (BitVec.ofNat 32 s.val).toInt = (s.val : Int) := WordCmp.toInt_ofNat_of_lt (by omega)
  rw [← hs, BitVec.toInt_inj]

/-- The mask is one at the listed slots and zero elsewhere. -/
theorem mask_apply (idx : IVec S32x8 32) (h : ∀ b j, (idx (ix2 b j)).toNat < 2 ^ 31) (b : Fin 32) (s : Fin 64) :
    mask idx (ix2 b s) = if ∃ j : Fin 8, idx (ix2 b j) = BitVec.ofNat 32 s.val then 1 else 0 := by
  have lands : ∀ (a : Fin 32) (j : Fin 8),
      scatter_S32x64_S32x8x2_S32x8_n_01_01_2.resultIdx? (ix2 a j) (places idx) = some (ix2 b s)
        ↔ a = b ∧ idx (ix2 a j) = BitVec.ofNat 32 s.val := fun a j => by
    have key := Routing.scatter_lands2 scatter_S32x64_S32x8x2_S32x8_n_01_01_2 rfl rfl rfl (places idx) a j b s
    simp only [← ix2_eq_valueIdx, ← ix3_eq_valueIdx] at key
    rw [key, places_row, places_slot idx a j (h a j), toInt_eq_iff, WordCmp.toInt_ofNat_of_lt (by omega),
      Int.ofNat_inj, ← Fin.ext_iff]
  by_cases hit : ∃ j : Fin 8, idx (ix2 b j) = BitVec.ofNat 32 s.val
  · rw [if_pos hit]
    obtain ⟨j, hj⟩ := hit
    refine Routing.scatter_set_hit _ _ _ _ _ 1 (fun k _ => ?_) (ix2 b j) ((lands b j).2 ⟨rfl, hj⟩)
    pointwise
  · rw [if_neg hit]
    refine (Routing.scatter_set_miss _ _ _ _ _ fun k hk => hit ?_).trans ?_
    · rw [eq_ix2 k] at hk
      obtain ⟨hb, hj⟩ := (lands _ _).1 hk
      exact ⟨k 1, hb ▸ hj⟩
    · pointwise

/-- The gate at an index. -/
theorem gate_apply (x : FVec Ideal S32x2048 .f32) (W : FVec Ideal S8192x2048 .f32) (bias : FVec Ideal S8192 .f32)
    (b : Fin 32) (s : Fin 64) (d : Fin 128) :
    gate x W bias (ix3 b s d)
      = Ideal.logistic (∑ k : Fin 2048, x (ix2 b k) * W (ix2 (row s d) k) + bias (ix1 (row s d))) := by
  pointwise [gate]
  rfl

/-- What the mask's complement is at a listed slot. -/
theorem one_sub_one : (1 : EReal) - 1 = 0 := EReal.sub_self (EReal.coe_ne_top 1) (EReal.coe_ne_bot 1)

/-- The blend at an index: multiplying by a mask that is one or zero chooses between the two arrays. -/
theorem blend_apply (p : Prop) [Decidable p] (mk : FVec Ideal S32x64 .f32) (g : FVec Ideal S32x64x128 .f32)
    (M : FVec Ideal S32x64x128x128 .f32) (Mk Mv : FVec Ideal S32x64x128 .f32) (b : Fin 32) (s : Fin 64) (d e : Fin 128)
    (hp : mk (ix2 b s) = if p then 1 else 0) :
    blend mk g M Mk Mv (ix4 b s d e)
      = if p then M (ix4 b s d e) * g (ix3 b s d) + Mk (ix3 b s d) * Mv (ix3 b s e) else M (ix4 b s d e) := by
  pointwise [blend]
  rw [hp]
  by_cases h : p
  · rw [if_pos h, if_pos h, one_mul, one_sub_one, zero_mul, add_zero]
  · rw [if_neg h, if_neg h, zero_mul, sub_zero, one_mul, zero_add]

/-- The reference's result is the update of the argument arrays when no listed slot number is negative. -/
theorem result_eq (M : FVec Ideal S32x64x128x128 .f32) (Mk Mv : FVec Ideal S32x64x128 .f32) (idx : IVec S32x8 32)
    (x : FVec Ideal S32x2048 .f32) (W : FVec Ideal S8192x2048 .f32) (bias : FVec Ideal S8192 .f32)
    (h : ∀ b j, (idx (ix2 b j)).toNat < 2 ^ 31) :
    blend (mask idx) (gate x W bias) M Mk Mv = updated M Mk Mv idx x W bias := by
  funext i
  obtain ⟨b, s, d, e, rfl⟩ : ∃ (b : Fin 32) (s : Fin 64) (d e : Fin 128), i = ix4 b s d e :=
    ⟨i 0, i 1, i 2, i 3, eq_ix4 i⟩
  rw [blend_apply _ _ _ _ _ _ b s d e (mask_apply idx h b s), gate_apply]
  rfl

/-- The reference's run: its result is the blend of its arguments, and its arguments end unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v47)
        = blend (mask (m ((c.tc : Thread nD τ).loc main_arg3)))
            (gate (m ((c.tc : Thread nD τ).loc main_arg4)) (m ((c.tc : Thread nD τ).loc main_arg5))
              (m ((c.tc : Thread nD τ).loc main_arg6)))
            (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h => h) (Cert.ReferenceIdeal.Value.run (F := Ideal) m g)

end Cert.ReferenceIdeal.Reading

end
-- ==== Proof.Equation.lean ====
/-
  The equation of the two programs: wherever no listed slot number is negative, the kernel's result array and the
  reference's are the same update of the argument arrays.
-/
module

public import proofs.«01_k».proof.Defs
public import proofs.«01_k».proof.Proof.Array
public import proofs.«01_k».proof.Proof.Reference
public import proofs.«01_k».proof.Proof.Gen.Pre_slots_not_negative
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Equation

open Cert.ReferenceIdeal.Reading

/-- The precondition read at an entry: a listed slot number is below `2 ^ 31` as an unsigned word. -/
theorem slot_not_negative (m : (ℓ : Loc Cert.KernelIdeal.nD Cert.KernelIdeal.τ Cert.KernelIdeal.sig) → Buf (Elt Ideal) ℓ)
    (hpre : Cert.Pre_KernelIdeal_slots_not_negative m) (c : Dev Cert.KernelIdeal.nD) (b : Fin 32) (j : Fin 8) :
    (m ((c.tc : Thread Cert.KernelIdeal.nD Cert.KernelIdeal.τ).loc Cert.KernelIdeal.main_arg3) (ix2 b j)).toNat < 2 ^ 31 := by
  have h : (0#32).toInt
      ≤ (m ((c.tc : Thread Cert.KernelIdeal.nD Cert.KernelIdeal.τ).loc Cert.KernelIdeal.main_arg3) (ix2 b j)).toInt :=
    IntOp.cmpi_sge.1 (congrFun (hpre c) (ix2 b j))
  rw [BitVec.toInt_zero, BitVec.toInt_eq_toNat_cond] at h
  have := (m ((c.tc : Thread Cert.KernelIdeal.nD Cert.KernelIdeal.τ).loc Cert.KernelIdeal.main_arg3) (ix2 b j)).isLt
  split at h <;> omega

/-- Both programs run, end with equal results and leave their arguments unchanged. -/
theorem algebraic : Cert.algebraic_KernelIdeal_ReferenceIdeal_pre_slots_not_negative := by
  pair_intro
  · run_from Cert.KernelIdeal.Gen.run_main m g
  · run_from Cert.ReferenceIdeal.Reading.run m' g'
    rw [Cert.KernelIdeal.Array.final m c]
    exact result_eq _ _ _ _ _ _ _ (slot_not_negative m hpre c)

end Cert.Equation

end
-- ==== Proof.lean ====
/-
  The certificate's claim, assembled: the frames are the generated runs, the printed idealization is the same program,
  and the value claim is the equation of the two result arrays.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_slots_not_negative
public import proofs.«01_k».proof.Proof.Equation
public import Idealize.ShloMosaic.Lib.Quiescent

@[expose] public section

noncomputable section

namespace Cert.Proof

open Idealize.ShloMosaic Idealize.SL.Sem

/-- The reference runs, leaves its arguments unchanged, and declares no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Reading.run m g)

/-- Every claim of the certificate. -/
theorem claim : Cert.Claim :=
  ⟨Cert.Kernel.Gen.facts, Cert.KernelIdeal.Gen.facts, Cert.ReferenceIdeal.Gen.facts,
    Cert.Pre_slots_not_negative.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    Cert.Equation.algebraic⟩

end Cert.Proof

end
